-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_infinite_pixel_or_no_zero_weight [hPre_no_infinite_pixel_or_no_zero_weight : Cert.Pre_no_infinite_pixel_or_no_zero_weight.Facts] (m : (ℓ : Loc Cert.KernelIdeal.nD Cert.KernelIdeal.τ Cert.KernelIdeal.sig) → Buf (Elt Ideal) ℓ) : Prop :=
  ∀ c : Dev Cert.KernelIdeal.nD,
    (Cert.Pre_no_infinite_pixel_or_no_zero_weight.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_infinite_pixel_or_no_zero_weight [hPre_no_infinite_pixel_or_no_zero_weight : Cert.Pre_no_infinite_pixel_or_no_zero_weight.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_infinite_pixel_or_no_zero_weight.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_no_infinite_pixel_or_no_zero_weight [hKernelIdeal : Cert.KernelIdeal.Facts] [hPre_no_infinite_pixel_or_no_zero_weight : Cert.Pre_no_infinite_pixel_or_no_zero_weight.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_infinite_pixel_or_no_zero_weight m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_no_infinite_pixel_or_no_zero_weight [hReferenceIdeal : Cert.ReferenceIdeal.Facts] [hPre_no_infinite_pixel_or_no_zero_weight : Cert.Pre_no_infinite_pixel_or_no_zero_weight.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_infinite_pixel_or_no_zero_weight m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_no_infinite_pixel_or_no_zero_weight [hKernelIdeal : Cert.KernelIdeal.Facts] [hReferenceIdeal : Cert.ReferenceIdeal.Facts] [hPre_no_infinite_pixel_or_no_zero_weight : Cert.Pre_no_infinite_pixel_or_no_zero_weight.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_infinite_pixel_or_no_zero_weight m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_no_infinite_pixel_or_no_zero_weight : Cert.Pre_no_infinite_pixel_or_no_zero_weight.Facts),
    quiescent_Kernel (hKernel := hKernel)
    ∧ quiescent_KernelIdeal (hKernelIdeal := hKernelIdeal)
    ∧ quiescent_KernelIdeal_pre_no_infinite_pixel_or_no_zero_weight (hKernelIdeal := hKernelIdeal) (hPre_no_infinite_pixel_or_no_zero_weight := hPre_no_infinite_pixel_or_no_zero_weight)
    ∧ quiescent_ReferenceIdeal (hReferenceIdeal := hReferenceIdeal)
    ∧ quiescent_ReferenceIdeal_pre_no_infinite_pixel_or_no_zero_weight (hReferenceIdeal := hReferenceIdeal) (hPre_no_infinite_pixel_or_no_zero_weight := hPre_no_infinite_pixel_or_no_zero_weight)
    ∧ preserves_Kernel_KernelIdeal
    ∧ algebraic_KernelIdeal_ReferenceIdeal_pre_no_infinite_pixel_or_no_zero_weight (hKernelIdeal := hKernelIdeal) (hReferenceIdeal := hReferenceIdeal) (hPre_no_infinite_pixel_or_no_zero_weight := hPre_no_infinite_pixel_or_no_zero_weight)
-- ==== Pre_no_infinite_pixel_or_no_zero_weight.lean ====
abbrev S16x512x512x3 : Shape := ⟨4, ![16, 512, 512, 3]⟩
abbrev S11 : Shape := ⟨1, ![11]⟩
abbrev S_ : Shape := ⟨0, ![]⟩

class Facts : Prop where
  bcast_S_S16x512x512x3 : S_.BroadcastsInDim S16x512x512x3 (![] : Fin 0 → Fin S16x512x512x3.rank)
  reducesTo_S16x512x512x3_S_d0_1_2_3 : S16x512x512x3.ReducesTo [0, 1, 2, 3] S_
  h_S_ : 0 < S_.numel
  bcast_S_S11 : S_.BroadcastsInDim S11 (![] : Fin 0 → Fin S11.rank)
  reducesTo_S11_S_d0 : S11.ReducesTo [0] S_

variable [Facts]

def fn_isinf {F : FTy → Type} [FloatOps F] (arg0 : FVec F S16x512x512x3 .f32) : IVec S16x512x512x3 1 :=
  let v0 : FVec F S16x512x512x3 .f32 := Host.absf arg0
  let cst : FVec F S_ .f32 := constant S_ .f32 0x7F800000#32
  let v1 : FVec F S16x512x512x3 .f32 := broadcastInDim S16x512x512x3 ![] bcast_S_S16x512x512x3 cst
  let v2 : IVec S16x512x512x3 1 := cmpf .oeq v0 v1
  v2

def fn {F : FTy → Type} [FloatOps F] (main_arg0 : FVec F S16x512x512x3 .f32) (main_arg1 : FVec F S11 .f32) (main_arg2 : FVec F S11 .f32) : IVec S_ 1 :=
  let main_v0 : IVec S16x512x512x3 1 := fn_isinf (F := F) main_arg0
  let main_v1 : IVec S16x512x512x3 1 := noti main_v0
  let main_c : IVec S_ 1 := constantI S_ 1 1#1
  let main_v2 : IVec S_ 1 := (fun x v => Host.reduce IntOp.andi x v reducesTo_S16x512x512x3_S_d0_1_2_3 h_S_) main_v1 main_c
  let main_cst : FVec F S_ .f32 := constant S_ .f32 0x00000000#32
  let main_v3 : FVec F S11 .f32 := broadcastInDim S11 ![] bcast_S_S11 main_cst
  let main_v4 : IVec S11 1 := cmpf .une main_arg1 main_v3
  let main_c_0 : IVec S_ 1 := constantI S_ 1 1#1
  let main_v5 : IVec S_ 1 := (fun x v => Host.reduce IntOp.andi x v reducesTo_S11_S_d0 h_S_) main_v4 main_c_0
  let main_v6 : IVec S_ 1 := ori main_v2 main_v5
  main_v6
-- ==== Kernel.lean ====
abbrev S16x512x512x3 : Shape := ⟨4, ![16, 512, 512, 3]⟩
abbrev S11 : Shape := ⟨1, ![11]⟩
abbrev S16x3x512x512 : Shape := ⟨4, ![16, 3, 512, 512]⟩
abbrev S16x11x512x512 : Shape := ⟨4, ![16, 11, 512, 512]⟩
abbrev S16x512x512x11 : Shape := ⟨4, ![16, 512, 512, 11]⟩
abbrev S1x3x256x512 : Shape := ⟨4, ![1, 3, 256, 512]⟩
abbrev S1x11x256x512 : Shape := ⟨4, ![1, 11, 256, 512]⟩
abbrev S1x1x256x512 : Shape := ⟨4, ![1, 1, 256, 512]⟩
abbrev S256x512 : Shape := ⟨2, ![256, 512]⟩
abbrev S1 : Shape := ⟨1, ![1]⟩

abbrev nBuf : Space → Nat
  | .hbm => 6
  | .vmem => 4
  | .smem => 2
  | _ => 0

abbrev bufTy : (tb : Table) → Fin (tcTables nBuf tb) → BufTy
  | .hbm, ⟨0, _⟩ => ⟨S16x512x512x3, .f32⟩
  | .hbm, ⟨1, _⟩ => ⟨S11, .f32⟩
  | .hbm, ⟨2, _⟩ => ⟨S11, .f32⟩
  | .hbm, ⟨3, _⟩ => ⟨S16x3x512x512, .f32⟩
  | .hbm, ⟨4, _⟩ => ⟨S16x11x512x512, .f32⟩
  | .hbm, ⟨5, _⟩ => ⟨S16x512x512x11, .f32⟩
  | .local _ .vmem, ⟨0, _⟩ => ⟨S1x3x256x512, .f32⟩
  | .local _ .vmem, ⟨1, _⟩ => ⟨S1x3x256x512, .f32⟩
  | .local _ .vmem, ⟨2, _⟩ => ⟨S1x11x256x512, .f32⟩
  | .local _ .vmem, ⟨3, _⟩ => ⟨S1x11x256x512, .f32⟩
  | .local _ .smem, ⟨0, _⟩ => ⟨S11, .f32⟩
  | .local _ .smem, ⟨1, _⟩ => ⟨S11, .f32⟩
  | _, _ => ⟨S16x512x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 2], ![false, false]⟩

def k0_off1 : Fin 4 → Nat :=
  let c0 : Index := 0#32
  let c0_0 : Index := 0#32
  let c0_i32 : BitVec 32 := 0#32
  let c256_i32 : BitVec 32 := 256#32
  let v0 : BitVec 32 := Scalar.muli c0_i32 c256_i32
  let v1 : Index := Scalar.indexCast v0
  let c0_1 : Index := 0#32
  ![0, 0, v1.toNat, 0]
def k0_off2 : Fin 4 → Nat :=
  let c0_2 : Index := 0#32
  let c1 : Index := 1#32
  let c0_i32 : BitVec 32 := 0#32
  let c256_i32 : BitVec 32 := 256#32
  let v0 : BitVec 32 := Scalar.muli c0_i32 c256_i32
  let v5 : Index := Scalar.indexCast v0
  let c0_3 : Index := 0#32
  ![0, 1, v5.toNat, 0]
def k0_off3 : Fin 4 → Nat :=
  let c0_4 : Index := 0#32
  let c2 : Index := 2#32
  let c0_i32 : BitVec 32 := 0#32
  let c256_i32 : BitVec 32 := 256#32
  let v0 : BitVec 32 := Scalar.muli c0_i32 c256_i32
  let v9 : Index := Scalar.indexCast v0
  let c0_5 : Index := 0#32
  ![0, 2, v9.toNat, 0]
def k0_off4 : Fin 4 → Nat :=
  let c0_15 : Index := 0#32
  let c0_16 : Index := 0#32
  let c0_i32 : BitVec 32 := 0#32
  let c256_i32 : BitVec 32 := 256#32
  let v0 : BitVec 32 := Scalar.muli c0_i32 c256_i32
  let v59 : Index := Scalar.indexCast v0
  let c0_17 : Index := 0#32
  ![0, 0, v59.toNat, 0]
def k0_off5 : Fin 4 → Nat :=
  let c0_28 : Index := 0#32
  let c1_29 : Index := 1#32
  let c0_i32 : BitVec 32 := 0#32
  let c256_i32 : BitVec 32 := 256#32
  let v0 : BitVec 32 := Scalar.muli c0_i32 c256_i32
  let v109 : Index := Scalar.indexCast v0
  let c0_30 : Index := 0#32
  ![0, 1, v109.toNat, 0]
def k0_off6 : Fin 4 → Nat :=
  let c0_41 : Index := 0#32
  let c2_42 : Index := 2#32
  let c0_i32 : BitVec 32 := 0#32
  let c256_i32 : BitVec 32 := 256#32
  let v0 : BitVec 32 := Scalar.muli c0_i32 c256_i32
  let v159 : Index := Scalar.indexCast v0
  let c0_43 : Index := 0#32
  ![0, 2, v159.toNat, 0]
def k0_off7 : Fin 4 → Nat :=
  let c0_53 : Index := 0#32
  let c3_54 : Index := 3#32
  let c0_i32 : BitVec 32 := 0#32
  let c256_i32 : BitVec 32 := 256#32
  let v0 : BitVec 32 := Scalar.muli c0_i32 c256_i32
  let v209 : Index := Scalar.indexCast v0
  let c0_55 : Index := 0#32
  ![0, 3, v209.toNat, 0]
def k0_off8 : Fin 4 → Nat :=
  let c0_65 : Index := 0#32
  let c4_66 : Index := 4#32
  let c0_i32 : BitVec 32 := 0#32
  let c256_i32 : BitVec 32 := 256#32
  let v0 : BitVec 32 := Scalar.muli c0_i32 c256_i32
  let v259 : Index := Scalar.indexCast v0
  let c0_67 : Index := 0#32
  ![0, 4, v259.toNat, 0]
def k0_off9 : Fin 4 → Nat :=
  let c0_77 : Index := 0#32
  let c5_78 : Index := 5#32
  let c0_i32 : BitVec 32 := 0#32
  let c256_i32 : BitVec 32 := 256#32
  let v0 : BitVec 32 := Scalar.muli c0_i32 c256_i32
  let v309 : Index := Scalar.indexCast v0
  let c0_79 : Index := 0#32
  ![0, 5, v309.toNat, 0]
def k0_off10 : Fin 4 → Nat :=
  let c0_89 : Index := 0#32
  let c6_90 : Index := 6#32
  let c0_i32 : BitVec 32 := 0#32
  let c256_i32 : BitVec 32 := 256#32
  let v0 : BitVec 32 := Scalar.muli c0_i32 c256_i32
  let v359 : Index := Scalar.indexCast v0
  let c0_91 : Index := 0#32
  ![0, 6, v359.toNat, 0]
def k0_off11 : Fin 4 → Nat :=
  let c0_101 : Index := 0#32
  let c7_102 : Index := 7#32
  let c0_i32 : BitVec 32 := 0#32
  let c256_i32 : BitVec 32 := 256#32
  let v0 : BitVec 32 := Scalar.muli c0_i32 c256_i32
  let v409 : Index := Scalar.indexCast v0
  let c0_103 : Index := 0#32
  ![0, 7, v409.toNat, 0]
def k0_off12 : Fin 4 → Nat :=
  let c0_113 : Index := 0#32
  let c8_114 : Index := 8#32
  let c0_i32 : BitVec 32 := 0#32
  let c256_i32 : BitVec 32 := 256#32
  let v0 : BitVec 32 := Scalar.muli c0_i32 c256_i32
  let v459 : Index := Scalar.indexCast v0
  let c0_115 : Index := 0#32
  ![0, 8, v459.toNat, 0]
def k0_off13 : Fin 4 → Nat :=
  let c0_125 : Index := 0#32
  let c9_126 : Index := 9#32
  let c0_i32 : BitVec 32 := 0#32
  let c256_i32 : BitVec 32 := 256#32
  let v0 : BitVec 32 := Scalar.muli c0_i32 c256_i32
  let v509 : Index := Scalar.indexCast v0
  let c0_127 : Index := 0#32
  ![0, 9, v509.toNat, 0]
def k0_off14 : Fin 4 → Nat :=
  let c0_137 : Index := 0#32
  let c10_138 : Index := 10#32
  let c0_i32 : BitVec 32 := 0#32
  let c256_i32 : BitVec 32 := 256#32
  let v0 : BitVec 32 := Scalar.muli c0_i32 c256_i32
  let v559 : Index := Scalar.indexCast v0
  let c0_139 : Index := 0#32
  ![0, 10, v559.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 1 → Memref sig .tc .smem S11 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S11 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x3x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x11x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S16x512x512x3 : Shape := ⟨4, ![16, 512, 512, 3]⟩
abbrev S11 : Shape := ⟨1, ![11]⟩
abbrev S_ : Shape := ⟨0, ![]⟩
abbrev S16x512x512x3x1 : Shape := ⟨5, ![16, 512, 512, 3, 1]⟩
abbrev S1x1x1x1x11 : Shape := ⟨5, ![1, 1, 1, 1, 11]⟩
abbrev S16x512x512x3x11 : Shape := ⟨5, ![16, 512, 512, 3, 11]⟩
abbrev S16x512x512x11 : Shape := ⟨4, ![16, 512, 512, 11]⟩

abbrev nBuf : Space → Nat
  | .hbm => 30
  | .vmem => 0
  | .smem => 0
  | _ => 0

abbrev bufTy : (tb : Table) → Fin (tcTables nBuf tb) → BufTy
  | .hbm, ⟨0, _⟩ => ⟨S16x512x512x3, .f32⟩
  | .hbm, ⟨1, _⟩ => ⟨S11, .f32⟩
  | .hbm, ⟨2, _⟩ => ⟨S11, .f32⟩
  | .hbm, ⟨3, _⟩ => ⟨S_, .f32⟩
  | .hbm, ⟨4, _⟩ => ⟨S16x512x512x3, .f32⟩
  | .hbm, ⟨5, _⟩ => ⟨S16x512x512x3, .f32⟩
  | .hbm, ⟨6, _⟩ => ⟨S16x512x512x3x1, .f32⟩
  | .hbm, ⟨7, _⟩ => ⟨S1x1x1x1x11, .f32⟩
  | .hbm, ⟨8, _⟩ => ⟨S16x512x512x3x11, .f32⟩
  | .hbm, ⟨9, _⟩ => ⟨S16x512x512x3x11, .f32⟩
  | .hbm, ⟨10, _⟩ => ⟨S16x512x512x3x11, .f32⟩
  | .hbm, ⟨11, _⟩ => ⟨S1x1x1x1x11, .f32⟩
  | .hbm, ⟨12, _⟩ => ⟨S16x512x512x3x11, .f32⟩
  | .hbm, ⟨13, _⟩ => ⟨S16x512x512x3x11, .f32⟩
  | .hbm, ⟨14, _⟩ => ⟨S16x512x512x3x11, .f32⟩
  | .hbm, ⟨15, _⟩ => ⟨S_, .f32⟩
  | .hbm, ⟨16, _⟩ => ⟨S16x512x512x3x11, .f32⟩
  | .hbm, ⟨17, _⟩ => ⟨S16x512x512x3x11, .f32⟩
  | .hbm, ⟨18, _⟩ => ⟨S16x512x512x3, .f32⟩
  | .hbm, ⟨19, _⟩ => ⟨S_, .f32⟩
  | .hbm, ⟨20, _⟩ => ⟨S16x512x512x3, .f32⟩
  | .hbm, ⟨21, _⟩ => ⟨S16x512x512x3, .i1⟩
  | .hbm, ⟨22, _⟩ => ⟨S16x512x512x3x1, .i1⟩
  | .hbm, ⟨23, _⟩ => ⟨S_, .f32⟩
  | .hbm, ⟨24, _⟩ => ⟨S_, .f32⟩
  | .hbm, ⟨25, _⟩ => ⟨S16x512x512x3x11, .i1⟩
  | .hbm, ⟨26, _⟩ => ⟨S16x512x512x3x11, .f32⟩
  | .hbm, ⟨27, _⟩ => ⟨S16x512x512x3x11, .f32⟩
  | .hbm, ⟨28, _⟩ => ⟨S_, .f32⟩
  | .hbm, ⟨29, _⟩ => ⟨S16x512x512x11, .f32⟩
  | _, _ => ⟨S16x512x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_cst : Ref sig .tc := ⟨.hbm, 19, rfl⟩
abbrev main_call0_v1 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩

abbrev nD : Nat := 1
abbrev τ : Topo := Topo.v7x

variable {F : FTy → Type} [FloatOps F]
-- ==== Proof.Sech.lean ====
/- The scalar mathematics of the kernel: one channel's contribution, as the kernel computes it (a power of two of a
   negated absolute value, then a quotient), is half of the hyperbolic secant the reference computes.  Everything here is
   about single extended reals; no array appears. -/
module

public import Idealize.ShloMosaic.PureOps.Ideal
public import Idealize.ShloMosaic.Init

@[expose] public section

noncomputable section

namespace Cert.Sech

open Idealize.ShloMosaic

/-- The factor that turns a power of `e` into a power of two: the exact `1 / log 2`. -/
abbrev L : EReal := (((Real.log 2)⁻¹ : ℝ) : EReal)

/-- What the kernel computes from a scaled argument `x`: with `t = 2^(-|x|)`, the quotient `t / (1 + t²)`. -/
def half (x : EReal) : EReal :=
  Ideal.div (Ideal.exp2 (0 - max x (-x))) (1 + Ideal.exp2 (0 - max x (-x)) * Ideal.exp2 (0 - max x (-x)))

/-- What the reference computes from an argument `z` on a finite pixel: `1 / cosh z`. -/
def sech (z : EReal) : EReal := Ideal.div 1 (Ideal.cosh z)

theorem log_two_pos : 0 < Real.log 2 := Real.log_pos (by norm_num)

theorem inv_log_two_pos : 0 < (Real.log 2)⁻¹ := inv_pos.mpr log_two_pos

/-- The scaling by `1 / log 2` moves out of a sum of a product and a bias, for any extended reals. -/
theorem scale (y k b : EReal) : y * (k * L) + b * L = (y * k + b) * L := by
  rw [← mul_assoc, mul_comm (y * k + b) L,
    EReal.left_distrib_of_nonneg_of_ne_top (EReal.coe_nonneg.mpr inv_log_two_pos.le) (EReal.coe_ne_top _),
    mul_comm L, mul_comm L]

/-- At an infinite argument the kernel's quotient is zero. -/
theorem half_top : half ⊤ = 0 := by simp [half, Ideal.div]

/-- The same at the other infinity. -/
theorem half_bot : half ⊥ = 0 := by simp [half, Ideal.div]

/-- `2^(-|r / log 2|)` is `e^(-|r|)`. -/
theorem rpow_scaled (r : ℝ) : Real.rpow 2 (-|r * (Real.log 2)⁻¹|) = Real.exp (-|r|) := by
  have h : Real.rpow 2 (-|r * (Real.log 2)⁻¹|) = (2 : ℝ) ^ (-|r * (Real.log 2)⁻¹|) := rfl
  rw [h, Real.rpow_def_of_pos (by norm_num), abs_mul, abs_of_pos inv_log_two_pos]
  congr 1
  have := log_two_pos.ne'
  field_simp

/-- With `t = e^(-|r|)`, twice `t / (1 + t²)` is `1 / cosh r`. -/
theorem real_identity (r : ℝ) :
    Real.exp (-|r|) * (1 / (1 + Real.exp (-|r|) * Real.exp (-|r|)))
      + Real.exp (-|r|) * (1 / (1 + Real.exp (-|r|) * Real.exp (-|r|))) = 1 / Real.cosh r := by
  rw [← Real.cosh_abs r, Real.cosh_eq]
  have h1 : 0 < Real.exp (-|r|) := Real.exp_pos _
  have h2 : Real.exp |r| = (Real.exp (-|r|))⁻¹ := by rw [Real.exp_neg, inv_inv]
  rw [h2]
  generalize Real.exp (-|r|) = t at h1
  have h3 : (1 + t * t) ≠ 0 := by positivity
  have h4 : t⁻¹ + t ≠ 0 := by positivity
  field_simp
  ring

/-- The kernel's quotient at a real argument, as a real number. -/
theorem half_coe (r : ℝ) : half (((r : ℝ) : EReal) * L)
    = ((Real.exp (-|r|) * (1 / (1 + Real.exp (-|r|) * Real.exp (-|r|))) : ℝ) : EReal) := by
  have habs : (0 : EReal) - max (((r : ℝ) : EReal) * L) (-(((r : ℝ) : EReal) * L))
      = ((-|r * (Real.log 2)⁻¹| : ℝ) : EReal) := by
    rw [← EReal.coe_mul, ← EReal.coe_neg, ← EReal.coe_strictMono.monotone.map_max, ← EReal.coe_zero, ← EReal.coe_sub, zero_sub]
    rfl
  rw [half, habs, Ideal.exp2_coe, rpow_scaled, ← EReal.coe_mul, ← EReal.coe_one, ← EReal.coe_add,
    Ideal.div_coe (by positivity), ← EReal.coe_mul]

/-- Twice the kernel's quotient at the scaled argument is the reference's `1 / cosh z`, for every extended real `z`. -/
theorem half_add_half (z : EReal) : half (z * L) + half (z * L) = sech z := by
  induction z with
  | bot => rw [EReal.bot_mul_coe_of_pos inv_log_two_pos, half_bot]; simp [sech, Ideal.div]
  | top => rw [EReal.top_mul_coe_of_pos inv_log_two_pos, half_top]; simp [sech, Ideal.div]
  | coe r =>
    rw [half_coe, ← EReal.coe_add, real_identity, sech, Ideal.cosh_coe,
      Ideal.div_coe (Real.cosh_pos r).ne', one_mul]

/-- An extended real whose absolute value is infinite is one of the two infinities. -/
theorem eq_of_abs_top {y : EReal} (h : max y (-y) = ⊤) : y = ⊤ ∨ y = ⊥ := by
  induction y with
  | bot => exact .inr rfl
  | top => exact .inl rfl
  | coe r => rw [← EReal.coe_neg, ← EReal.coe_strictMono.monotone.map_max] at h; exact absurd h (EReal.coe_ne_top _)

/-- An infinite pixel times a nonzero weight, plus any bias, is infinite. -/
theorem affine_infinite {y k : EReal} (b : EReal) (hy : y = ⊤ ∨ y = ⊥) (hk : k ≠ 0) :
    y * k + b = ⊤ ∨ y * k + b = ⊥ := by
  have h : y * k = ⊤ ∨ y * k = ⊥ := by
    rcases hy with rfl | rfl <;> rcases lt_or_gt_of_ne hk with h | h
    · exact .inr (EReal.top_mul_of_neg h)
    · exact .inl (EReal.top_mul_of_pos h)
    · exact .inl (EReal.bot_mul_of_neg h)
    · exact .inr (EReal.bot_mul_of_pos h)
  rcases h with h | h <;> rw [h]
  · rcases eq_or_ne b ⊥ with rfl | hb
    · exact .inr (EReal.add_bot _)
    · exact .inl (EReal.top_add_of_ne_bot hb)
  · exact .inr (EReal.bot_add _)

/-- One channel: twice what the kernel adds for a pixel `y`, a weight `k` and a bias `b` is what the reference adds,
    namely zero on an infinite pixel and `1 / cosh (y k + b)` on any other, provided an infinite pixel never meets a zero
    weight. -/
theorem channel (y k b : EReal) (h : max y (-y) = ⊤ → k ≠ 0) :
    half (y * (k * L) + b * L) + half (y * (k * L) + b * L)
      = if max y (-y) = ⊤ then 0 else sech (y * k + b) := by
  rw [scale, half_add_half]
  split_ifs with hy
  · rcases affine_infinite b (eq_of_abs_top hy) (h hy) with e | e <;> rw [e] <;> simp [sech, Ideal.div]
  · rfl

/-- The sum of three channels doubled, as the kernel forms it, is the sum of the three doubled channels. -/
theorem double_sum (a b c : EReal) : (a + b + c) + (a + b + c) = (a + a) + (b + b) + (c + c) := by
  abel

/-- The bit pattern of positive infinity denotes the top of the extended reals. -/
theorem infinity_bits : Ideal.ofBits .f32 0x7F800000#32 = (⊤ : EReal) := by simp [Ideal.ofBits, Ideal.ieee]

end Cert.Sech

end
-- ==== Proof.Block.lean ====
/- What the kernel's body leaves in one output block.  The body writes eleven planes, one per weight; each is one and the
   same function of the three channel planes of the image block, a weight and a bias.  That function is read here once, at
   an index, and every plane is an instance of it. -/
module

public import proofs.«01_k».proof.Proof.Gen.KernelIdeal.Frame
public import proofs.«01_k».proof.Proof.Sech
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen Cert.Sech

/-- The doubled sum over the three channel pixels `p q r` of the kernel's quotient, at a weight and a bias. -/
def cell (p q r k b : EReal) : EReal :=
  (half (p * (k * L) + b * L) + half (q * (k * L) + b * L) + half (r * (k * L) + b * L))
    + (half (p * (k * L) + b * L) + half (q * (k * L) + b * L) + half (r * (k * L) + b * L))

/-- One output plane as the body computes it from the three channel planes, a weight and a bias. -/
def plane (X Y Z : FVec Ideal S1x1x256x512 .f32) (k b : Ideal .f32) : FVec Ideal S1x1x256x512 .f32 :=
  k0_pay1 (k0_pay44 (k0_pay2 X) (k0_pay3 Y) (k0_pay4 Z) k b)

/-- The named constant of the kernel is the exact `1 / log 2`. -/
theorem log2e : Named.named (F := Ideal) (φ := .f32) κ "log2e" 0x3FB8AA3B#32 = L :=
  IdealRules.named_const.ideal_named_scalar κ "log2e" _ _ rfl

/-- The plane at an index: the doubled sum at the three pixels standing there. -/
theorem plane_at (X Y Z : FVec Ideal S1x1x256x512 .f32) (k b : Ideal .f32) (x : S1x1x256x512.Idx) :
    plane X Y Z k b x = cell (X x) (Y x) (Z x) k b := by
  pointwise [plane, k0_pay1, k0_pay44, k0_pay2, k0_pay3, k0_pay4]
  rw [log2e]
  rfl

/-- What the output block holds at its index `y`, from the block's weights, biases and image: the doubled sum over the
    three channels at that row and column, with the weight and bias of that plane. -/
def blockVal (K B : FVec Ideal S11 .f32) (X : FVec Ideal S1x3x256x512 .f32) (y : S1x11x256x512.Idx) : EReal :=
  cell (X (ix4 0 0 (y 2) (y 3))) (X (ix4 0 1 (y 2) (y 3))) (X (ix4 0 2 (y 2) (y 3))) (K (ix1 (y 1))) (B (ix1 (y 1)))

/-- The plane of weight number `j`, computed from what the body loads, is the block's value on that plane. -/
theorem plane_loads (K B : FVec Ideal S11 .f32) (X : FVec Ideal S1x3x256x512 .f32) (j : ℕ)
    (inb : ∀ a, (![j] : Fin S11.rank → ℕ) a + (![1] : Fin S11.rank → ℕ) a ≤ S11.size a)
    (z : (Rect.unit (s := S11) ![j] ![1] inb).shape.Idx) (x : S1x1x256x512.Idx) (y : S1x11x256x512.Idx)
    (h1 : (y 1 : ℕ) = j) (h2 : (y 2 : ℕ) = x 2) (h3 : (y 3 : ℕ) = x 3) :
    plane (View.ld (Val := Elt Ideal) (e' := .f32) X (Rect.unit k0_off1 ![1, 1, 256, 512] k0_off1_inb)) (View.ld (Val := Elt Ideal) (e' := .f32) X (Rect.unit k0_off2 ![1, 1, 256, 512] k0_off2_inb))
      (View.ld (Val := Elt Ideal) (e' := .f32) X (Rect.unit k0_off3 ![1, 1, 256, 512] k0_off3_inb)) (View.ld (Val := Elt Ideal) (e' := .f32) K (Rect.unit ![j] ![1] inb) z)
      (View.ld (Val := Elt Ideal) (e' := .f32) B (Rect.unit ![j] ![1] inb) z) x = blockVal K B X y := by
  rw [plane_at, blockVal]
  have hx0 := (x 0).isLt
  have hx1 := (x 1).isLt
  have hz := (z 0).isLt
  congr 1
  all_goals
    refine View.ld_unit_apply_of _ _ _ _ _ _ fun a => ?_
    fin_cases a
  all_goals simp_all [k0_off1, k0_off2, k0_off3]
  all_goals rfl

/-- What the body leaves in the output's buffer at grid point `t`. -/
theorem outsAt (m : (ℓ : Loc nD τ sig) → Buf (Elt Ideal) ℓ) (c : Dev nD) (t : Fin cfg0.N) (y : S1x11x256x512.Idx) :
    outsAt0 m c t y = blockVal (iblk m c 0 t) (iblk m c 1 t) (iblk m c 2 t) y := by
  unfold Gen.outsAt0
  frame_out
  canon_tiles x h
  all_goals exact plane_loads _ _ _ _ _ (Shape.Idx.first (by decide)) x y (by omega) h2 h3

end Cert.KernelIdeal.Value

end
-- ==== Proof.Result.lean ====
/- What the kernel's result array holds after the whole run: first the array the pipeline writes block by block, then the
   result, which is that array with its axes permuted. -/
module

public import proofs.«01_k».proof.Proof.Block

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Sech

variable (m : (ℓ : Loc nD τ sig) → Buf (Elt Ideal) ℓ)

/-- The pipeline's output array as a function of the image (channels first), the weights and the biases. -/
def arrayVal (K B : FVec Ideal S11 .f32) (X : FVec Ideal S16x3x512x512 .f32) : FVec Ideal S16x11x512x512 .f32 :=
  fun i => cell (X (ix4 (i 0) 0 (i 2) (i 3))) (X (ix4 (i 0) 1 (i 2) (i 3))) (X (ix4 (i 0) 2 (i 2) (i 3)))
    (K (ix1 (i 1))) (B (ix1 (i 1)))

/-- The block indices of the four windows at every grid point: the weights and biases whole, the image and the output by
    picture and half of the rows. -/
theorem blockIdx : ∀ t : Fin cfg0.N, win0_0.index t = ![0] ∧ win0_1.index t = ![0]
    ∧ win0_2.index t = ![t.val / 2, 0, t.val % 2, 0] ∧ win0_3.index t = ![t.val / 2, 0, t.val % 2, 0] :=
  (by decide +kernel : ∀ t : Fin grid0.N, _)

/-- A block's value is the array's value at the place where the block's index sits. -/
theorem block_in_array (c : Dev nD) (t : Fin cfg0.N) (y : S1x11x256x512.Idx) (i : S16x11x512x512.Idx)
    (h0 : (i 0 : ℕ) = t.val / 2) (h1 : (i 1 : ℕ) = y 1) (h2 : (i 2 : ℕ) = t.val % 2 * 256 + y 2) (h3 : (i 3 : ℕ) = y 3) :
    blockVal (iblk m c 0 t) (iblk m c 1 t) (iblk m c 2 t) y
      = arrayVal (V m c main_arg1) (V m c main_arg2) (V m c main_call0_v0) i := by
  unfold blockVal arrayVal
  congr 1
  all_goals blk_ext [iblk, blockIdx t]

/-- The pipeline's output array after every block is written back. -/
theorem array_final (c : Dev nD) : (dats m 0 c).arrAt 3 (cfgs 0).N
    = arrayVal (V m c main_arg1) (V m c main_arg2) (V m c main_call0_v0) := by
  refine (dats m 0 c).arrAt_eq_of_covers 3 _ (by decide +kernel) fun t _ y => ?_
  blk_simp
  rw [after0_3, outsAt]
  refine block_in_array m c t _ _ ?_ ?_ ?_ ?_
  all_goals (blk_simp [blockIdx t] <;> try omega)

/-- The image the pipeline reads is the argument with its channels brought forward. -/
theorem entry_image (c : Dev nD) : V m c main_call0_v0
    = transpose S16x3x512x512 [0, 3, 1, 2] (m ((c : Thread nD τ).loc main_arg0)) transposes_S16x512x512x3_S16x3x512x512_0_3_1_2 := by
  change StableHlo.after [hostOps0].flatten (fun b => m (c, b)) (Proc.tc.devRef main_call0_v0) = _
  simp only [hostOps0, List.flatten_cons, List.flatten_nil, List.append_nil, StableHlo.TRef.unary, StableHlo.TRef.toBuf,
    StableHlo.TRef.ofBuf, cast_eq]
  after_results

/-- The result is the pipeline's output array with the weights' axis moved last. -/
theorem tail_result (c : Dev nD) : Pipeline.afterTail₀ cfgs (dats m) 0 (V0 m) [hostOps1] c main_v0
    = transpose S16x512x512x11 [0, 2, 3, 1] ((dats m 0 c).arrAt 3 (cfgs 0).N : FVec Ideal S16x11x512x512 .f32) transposes_S16x11x512x512_S16x512x512x11_0_2_3_1 := by
  have h := Pipeline.withArrays_arr (τ := τ) spec0 (by decide) c (V0 m c) (fun w => (dats m 0 c).arrAt w (cfgs 0).N) 3
  unfold Pipeline.afterTail₀
  simp only [hostOps1, List.flatten_cons, List.flatten_nil, List.append_nil, StableHlo.TRef.unary, StableHlo.TRef.toBuf,
    StableHlo.TRef.ofBuf, cast_eq]
  generalize Pipeline.withArrays (cfgs 0).spec c (V0 m c) (fun w => (dats m 0 c).arrAt w (cfgs 0).N) = W at h ⊢
  after_results
  exact congrArg (fun A : FVec Ideal S16x11x512x512 .f32 => transpose S16x512x512x11 [0, 2, 3, 1] A
    transposes_S16x11x512x512_S16x512x512x11_0_2_3_1) h

/-- The result as a function of the three arguments: at picture, row, column and weight, the doubled sum over the three
    channels of that pixel. -/
def resultVal (X : FVec Ideal S16x512x512x3 .f32) (K B : FVec Ideal S11 .f32) : FVec Ideal S16x512x512x11 .f32 :=
  fun i => cell (X (ix4 (i 0) (i 1) (i 2) 0)) (X (ix4 (i 0) (i 1) (i 2) 1)) (X (ix4 (i 0) (i 1) (i 2) 2))
    (K (ix1 (i 3))) (B (ix1 (i 3)))

/-- What the result array holds when the program ends. -/
theorem result_final (c : Dev nD) : Pipeline.afterTail₀ cfgs (dats m) 0 (V0 m) [hostOps1] c main_v0
    = resultVal (m ((c : Thread nD τ).loc main_arg0)) (m ((c : Thread nD τ).loc main_arg1)) (m ((c : Thread nD τ).loc main_arg2)) := by
  rw [tail_result, array_final, V_main_arg1, V_main_arg2, entry_image]
  funext i
  pointwise [arrayVal, resultVal]

end Cert.KernelIdeal.Value

end
-- ==== Proof.Reference.lean ====
/- What the reference computes, read at an index: the sum over the three channels of `1 / cosh (y k + b)`, with zero in
   place of the channels whose pixel is infinite. -/
module

public import proofs.«01_k».proof.Proof.Gen.ReferenceIdeal.Run
public import proofs.«01_k».proof.Proof.Sech
public import Idealize.ShloMosaic.Lib.Pipeline.ValueKit

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Sech

/-- The reference's composed term over the image, the weights and the biases. -/
abbrev term (X : FVec Ideal S16x512x512x3 .f32) (K B : FVec Ideal S11 .f32) : FVec Ideal S16x512x512x11 .f32 :=
  Host.reduceAdd (select (broadcastInDim S16x512x512x3x11 ![0, 1, 2, 3, 4] bcast_S16x512x512x3x1_S16x512x512x3x11_0_1_2_3_4
      (broadcastInDim S16x512x512x3x1 ![0, 1, 2, 3] bcast_S16x512x512x3_S16x512x512x3x1_0_1_2_3
        (cmpf .oeq (Host.absf (mulf X (broadcastInDim S16x512x512x3 ![] bcast_S_S16x512x512x3 (constant S_ .f32 0x3F800000#32))))
          (broadcastInDim S16x512x512x3 ![] bcast_S_S16x512x512x3 (constant S_ .f32 0x7F800000#32)))))
    (broadcastInDim S16x512x512x3x11 ![] bcast_S_S16x512x512x3x11 (constant S_ .f32 0x00000000#32))
    (Host.divf (broadcastInDim S16x512x512x3x11 ![] bcast_S_S16x512x512x3x11 (constant S_ .f32 0x3F800000#32))
      (Host.cosh (addf
        (mulf (broadcastInDim S16x512x512x3x11 ![0, 1, 2, 3, 4] bcast_S16x512x512x3x1_S16x512x512x3x11_0_1_2_3_4
            (broadcastInDim S16x512x512x3x1 ![0, 1, 2, 3] bcast_S16x512x512x3_S16x512x512x3x1_0_1_2_3
              (mulf X (broadcastInDim S16x512x512x3 ![] bcast_S_S16x512x512x3 (constant S_ .f32 0x3F800000#32)))))
          (broadcastInDim S16x512x512x3x11 ![0, 1, 2, 3, 4] bcast_S1x1x1x1x11_S16x512x512x3x11_0_1_2_3_4
            (broadcastInDim S1x1x1x1x11 ![4] bcast_S11_S1x1x1x1x11_4 K)))
        (broadcastInDim S16x512x512x3x11 ![0, 1, 2, 3, 4] bcast_S1x1x1x1x11_S16x512x512x3x11_0_1_2_3_4
          (broadcastInDim S1x1x1x1x11 ![4] bcast_S11_S1x1x1x1x11_4 B))))))
    (constant S_ .f32 0x00000000#32) reducesTo_S16x512x512x3x11_S16x512x512x11_d3 h_S_

/-- One channel's summand in the reference. -/
def summand (y k b : EReal) : EReal := if max y (-y) = ⊤ then 0 else sech (y * k + b)

/-- The reference at an index. -/
theorem term_at (X : FVec Ideal S16x512x512x3 .f32) (K B : FVec Ideal S11 .f32) (i : S16x512x512x11.Idx) :
    term X K B i = summand (X (ix4 (i 0) (i 1) (i 2) 0)) (K (ix1 (i 3))) (B (ix1 (i 3)))
      + summand (X (ix4 (i 0) (i 1) (i 2) 1)) (K (ix1 (i 3))) (B (ix1 (i 3)))
      + summand (X (ix4 (i 0) (i 1) (i 2) 2)) (K (ix1 (i 3))) (B (ix1 (i 3))) := by
  pointwise [term]
  rw [infinity_bits]
  exact Fin.sum_univ_three fun n : Fin 3 => summand (X (ix4 (i 0) (i 1) (i 2) n)) (K (ix1 (i 3))) (B (ix1 (i 3)))

end Cert.ReferenceIdeal.Value

end
-- ==== Proof.Domain.lean ====
/- What the precondition says, read at an index: an infinite pixel never meets a zero weight. -/
module

public import proofs.«01_k».proof.Proof.Gen.Pre_no_infinite_pixel_or_no_zero_weight
public import proofs.«01_k».proof.Proof.Sech
public import Idealize.ShloMosaic.Lib.ReduceAll
public import Idealize.ShloMosaic.Lib.Pipeline.ValueKit

@[expose] public section

set_option maxRecDepth 16384

noncomputable section

namespace Cert.Pre_no_infinite_pixel_or_no_zero_weight

open Idealize.ShloMosaic Idealize.ShloMosaic.TcCoe Idealize.SL.Sem
open Cert.Sech

/-- Where the precondition holds, an infinite pixel and a zero weight do not occur together. -/
theorem apart (X : FVec Ideal S16x512x512x3 .f32) (K B : FVec Ideal S11 .f32)
    (h : fn (F := Ideal) X K B = fun _ => 1#1) (i : S16x512x512x3.Idx) (j : S11.Idx)
    (hi : max (X i) (-(X i)) = (⊤ : EReal)) : K j ≠ (0 : EReal) := by
  haveI : Subsingleton S_.Idx := ⟨fun a b => funext fun d => d.elim0⟩
  have h0 := congrFun h (Shape.Idx.first Gen.h_S_)
  dsimp only [fn, fn_isinf] at h0
  rcases IntOp.ori_eq_one.1 h0 with h1 | h1
  · have h2 := Host.reduce_andi_all _ _ _ _ _ h1 i
    pointwise [] at h2
    rw [infinity_bits] at h2
    rw [show FloatOps.absf (X i) = (⊤ : EReal) from hi] at h2
    simp at h2
  · have h2 := Host.reduce_andi_all _ _ _ _ _ h1 j
    pointwise [] at h2
    intro hk
    rw [decide_eq_false (not_not.mpr hk)] at h2
    exact absurd h2 (by decide)

end Cert.Pre_no_infinite_pixel_or_no_zero_weight

end
-- ==== Proof.Equation.lean ====
/- The equation of the two results: where an infinite pixel never meets a zero weight, the kernel's doubled sum of halves
   is the reference's sum over the channels. -/
module

public import proofs.«01_k».proof.Proof.Result
public import proofs.«01_k».proof.Proof.Reference
public import proofs.«01_k».proof.Proof.Domain

@[expose] public section

set_option maxRecDepth 16384

noncomputable section

namespace Cert.Equation

open Idealize.ShloMosaic Idealize.ShloMosaic.TcCoe Idealize.SL.Sem
open Cert.Sech Cert.KernelIdeal.Value Cert.ReferenceIdeal.Value

/-- One result of the kernel is the sum of the reference's three summands. -/
theorem cell_eq (p q r k b : EReal) (hp : max p (-p) = ⊤ → k ≠ 0) (hq : max q (-q) = ⊤ → k ≠ 0)
    (hr : max r (-r) = ⊤ → k ≠ 0) : cell p q r k b = summand p k b + summand q k b + summand r k b := by
  unfold cell summand
  rw [double_sum, channel p k b hp, channel q k b hq, channel r k b hr]

/-- The reference's result is the kernel's, wherever the precondition holds. -/
theorem result_eq (X : FVec Ideal Cert.KernelIdeal.S16x512x512x3 .f32) (K B : FVec Ideal Cert.KernelIdeal.S11 .f32)
    (h : Cert.Pre_no_infinite_pixel_or_no_zero_weight.fn (F := Ideal) X K B = fun _ => 1#1) :
    term X K B = resultVal X K B := by
  funext i
  have far := fun a => Cert.Pre_no_infinite_pixel_or_no_zero_weight.apart X K B h a (ix1 (i 3))
  rw [term_at]
  exact (cell_eq _ _ _ _ _ (far _) (far _) (far _)).symm

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_no_infinite_pixel_or_no_zero_weight
public import Idealize.ShloMosaic.Adequacy
public import Idealize.ShloMosaic.Init

public import Idealize.ShloMosaic.Lib.Claim
public import proofs.«01_k».proof.Proof.Equation

@[expose] public section

noncomputable section

namespace Cert.Proof

open Idealize.ShloMosaic Idealize.ShloMosaic.TcCoe Idealize.SL.Sem

/-- The kernel runs to the end on hardware floats, its arguments unchanged and its semaphores at zero. -/
theorem frame_kernel : Cert.quiescent_Kernel (hKernel := Cert.Kernel.Gen.facts) :=
  fun m g _ => Cert.Kernel.Gen.frame m g

/-- The idealized kernel runs to the end, its arguments unchanged and its semaphores at zero. -/
theorem frame_ideal : Cert.quiescent_KernelIdeal (hKernelIdeal := Cert.KernelIdeal.Gen.facts) :=
  fun m g _ => Cert.KernelIdeal.Gen.frame m g

/-- The same of the idealized kernel where the precondition holds. -/
theorem frame_ideal_pre : Cert.quiescent_KernelIdeal_pre_no_infinite_pixel_or_no_zero_weight
    (hKernelIdeal := Cert.KernelIdeal.Gen.facts)
    (hPre_no_infinite_pixel_or_no_zero_weight := Cert.Pre_no_infinite_pixel_or_no_zero_weight.Gen.facts) :=
  fun m g _ => Cert.KernelIdeal.Gen.frame m g

/-- The reference runs to the end, its arguments unchanged and its semaphores at zero. -/
theorem frame_reference : Cert.quiescent_ReferenceIdeal (hReferenceIdeal := Cert.ReferenceIdeal.Gen.facts) :=
  fun m g _ => (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The same of the reference where the precondition holds. -/
theorem frame_reference_pre : Cert.quiescent_ReferenceIdeal_pre_no_infinite_pixel_or_no_zero_weight
    (hReferenceIdeal := Cert.ReferenceIdeal.Gen.facts)
    (hPre_no_infinite_pixel_or_no_zero_weight := Cert.Pre_no_infinite_pixel_or_no_zero_weight.Gen.facts) :=
  fun m g _ => frame_reference m g trivial

/-- Naming the constant is the only difference between the kernel and its idealization. -/
theorem preserves : Cert.preserves_Kernel_KernelIdeal :=
  IdealRules.named_const.statement _ _ _ _ _ rfl

/-- The idealized kernel and the reference end with equal results wherever the precondition holds. -/
theorem algebraic : Cert.algebraic_KernelIdeal_ReferenceIdeal_pre_no_infinite_pixel_or_no_zero_weight
    (hKernelIdeal := Cert.KernelIdeal.Gen.facts) (hReferenceIdeal := Cert.ReferenceIdeal.Gen.facts)
    (hPre_no_infinite_pixel_or_no_zero_weight := Cert.Pre_no_infinite_pixel_or_no_zero_weight.Gen.facts) := by
  pair_intro
  · run_from Cert.KernelIdeal.Gen.run_main m g
    exact Cert.KernelIdeal.Gen.W_main_arg0 m (Cert.KernelIdeal.Gen.dats m) c
  · run_from Cert.ReferenceIdeal.Value.run m' g'
    rw [Cert.KernelIdeal.Value.result_final]
    exact Cert.Equation.result_eq _ _ _ (hpre c)

/-- Every claim of the certificate. -/
theorem claim : Cert.Claim := ⟨Cert.Kernel.Gen.facts, Cert.KernelIdeal.Gen.facts, Cert.ReferenceIdeal.Gen.facts,
  Cert.Pre_no_infinite_pixel_or_no_zero_weight.Gen.facts,
  frame_kernel, frame_ideal, frame_ideal_pre, frame_reference, frame_reference_pre, preserves, algebraic⟩

end Cert.Proof

end
